-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x14336 : Shape := ⟨3, ![4, 384, 14336]⟩
abbrev S7168x4096 : Shape := ⟨2, ![7168, 4096]⟩
abbrev S112x4096 : Shape := ⟨2, ![112, 4096]⟩
abbrev S14336x16 : Shape := ⟨2, ![14336, 16]⟩
abbrev S16x4096 : Shape := ⟨2, ![16, 4096]⟩
abbrev S4096 : Shape := ⟨1, ![4096]⟩
abbrev S1536x14336 : Shape := ⟨2, ![1536, 14336]⟩
abbrev S1x4096 : Shape := ⟨2, ![1, 4096]⟩
abbrev S1536x4096 : Shape := ⟨2, ![1536, 4096]⟩
abbrev S1536x1024 : Shape := ⟨2, ![1536, 1024]⟩
abbrev S512x1024 : Shape := ⟨2, ![512, 1024]⟩
abbrev S8x1024 : Shape := ⟨2, ![8, 1024]⟩
abbrev S1024x16 : Shape := ⟨2, ![1024, 16]⟩
abbrev S16x1024 : Shape := ⟨2, ![16, 1024]⟩
abbrev S1x1024 : Shape := ⟨2, ![1, 1024]⟩
abbrev S1024x1024 : Shape := ⟨2, ![1024, 1024]⟩
abbrev S64x1024 : Shape := ⟨2, ![64, 1024]⟩
abbrev S64x1x1024 : Shape := ⟨3, ![64, 1, 1024]⟩
abbrev S64x2x1024 : Shape := ⟨3, ![64, 2, 1024]⟩
abbrev S128x1024 : Shape := ⟨2, ![128, 1024]⟩
abbrev S128x16 : Shape := ⟨2, ![128, 16]⟩
abbrev S16x8x1024 : Shape := ⟨3, ![16, 8, 1024]⟩
abbrev S1024 : Shape := ⟨1, ![1024]⟩

abbrev nBuf : Space → Nat
  | .hbm => 10
  | .vmem => 19
  | .smem => 0
  | _ => 0

abbrev bufTy : (tb : Table) → Fin (tcTables nBuf tb) → BufTy
  | .hbm, ⟨0, _⟩ => ⟨S4x384x14336, .bf16⟩
  | .hbm, ⟨1, _⟩ => ⟨S7168x4096, .i8⟩
  | .hbm, ⟨2, _⟩ => ⟨S112x4096, .bf16⟩
  | .hbm, ⟨3, _⟩ => ⟨S14336x16, .bf16⟩
  | .hbm, ⟨4, _⟩ => ⟨S16x4096, .bf16⟩
  | .hbm, ⟨5, _⟩ => ⟨S4096, .f32⟩
  | .hbm, ⟨6, _⟩ => ⟨S1536x14336, .bf16⟩
  | .hbm, ⟨7, _⟩ => ⟨S1x4096, .f32⟩
  | .hbm, ⟨8, _⟩ => ⟨S1536x4096, .bf16⟩
  | .hbm, ⟨9, _⟩ => ⟨S1x4096, .f32⟩
  | .local _ .vmem, ⟨0, _⟩ => ⟨S1536x1024, .bf16⟩
  | .local _ .vmem, ⟨1, _⟩ => ⟨S1536x1024, .bf16⟩
  | .local _ .vmem, ⟨2, _⟩ => ⟨S512x1024, .i8⟩
  | .local _ .vmem, ⟨3, _⟩ => ⟨S512x1024, .i8⟩
  | .local _ .vmem, ⟨4, _⟩ => ⟨S8x1024, .bf16⟩
  | .local _ .vmem, ⟨5, _⟩ => ⟨S8x1024, .bf16⟩
  | .local _ .vmem, ⟨6, _⟩ => ⟨S1024x16, .bf16⟩
  | .local _ .vmem, ⟨7, _⟩ => ⟨S1024x16, .bf16⟩
  | .local _ .vmem, ⟨8, _⟩ => ⟨S16x1024, .bf16⟩
  | .local _ .vmem, ⟨9, _⟩ => ⟨S16x1024, .bf16⟩
  | .local _ .vmem, ⟨10, _⟩ => ⟨S1x1024, .f32⟩
  | .local _ .vmem, ⟨11, _⟩ => ⟨S1x1024, .f32⟩
  | .local _ .vmem, ⟨12, _⟩ => ⟨S1536x1024, .bf16⟩
  | .local _ .vmem, ⟨13, _⟩ => ⟨S1536x1024, .bf16⟩
  | .local _ .vmem, ⟨14, _⟩ => ⟨S1x1024, .f32⟩
  | .local _ .vmem, ⟨15, _⟩ => ⟨S1x1024, .f32⟩
  | .local _ .vmem, ⟨16, _⟩ => ⟨S1536x1024, .f32⟩
  | .local _ .vmem, ⟨17, _⟩ => ⟨S8x1024, .f32⟩
  | .local _ .vmem, ⟨18, _⟩ => ⟨S1024x1024, .bf16⟩
  | _, _ => ⟨S4x384x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 14], ![false, false]⟩

def k0_cond2 (i : grid0.Coords) : BitVec 1 :=
  let arg1 : BitVec 32 := BitVec.ofNat 32 (i 1).val
  let c13_i32 : BitVec 32 := 13#32
  let v290 : BitVec 1 := Scalar.cmpi .eq arg1 c13_i32
  let v291 : BitVec 32 := Scalar.extui v290
  let c0_i32_121 : BitVec 32 := 0#32
  let v292 : BitVec 1 := Scalar.cmpi .ne v291 c0_i32_121
  v292

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1536x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4x384x14336 : Shape := ⟨3, ![4, 384, 14336]⟩
abbrev S7168x4096 : Shape := ⟨2, ![7168, 4096]⟩
abbrev S112x4096 : Shape := ⟨2, ![112, 4096]⟩
abbrev S14336x16 : Shape := ⟨2, ![14336, 16]⟩
abbrev S16x4096 : Shape := ⟨2, ![16, 4096]⟩
abbrev S4096 : Shape := ⟨1, ![4096]⟩
abbrev S112x64x4096 : Shape := ⟨3, ![112, 64, 4096]⟩
abbrev S_ : Shape := ⟨0, ![]⟩
abbrev S7168x16 : Shape := ⟨2, ![7168, 16]⟩
abbrev S4x384x7168 : Shape := ⟨3, ![4, 384, 7168]⟩
abbrev S4x384x4096 : Shape := ⟨3, ![4, 384, 4096]⟩
abbrev S1x1x4096 : Shape := ⟨3, ![1, 1, 4096]⟩
abbrev S1536x4096 : Shape := ⟨2, ![1536, 4096]⟩
abbrev S1x4096 : Shape := ⟨2, ![1, 4096]⟩

abbrev nBuf : Space → Nat
  | .hbm => 72
  | .vmem => 0
  | .smem => 0
  | _ => 0

abbrev bufTy : (tb : Table) → Fin (tcTables nBuf tb) → BufTy
  | .hbm, ⟨0, _⟩ => ⟨S4x384x14336, .bf16⟩
  | .hbm, ⟨1, _⟩ => ⟨S7168x4096, .i8⟩
  | .hbm, ⟨2, _⟩ => ⟨S112x4096, .bf16⟩
  | .hbm, ⟨3, _⟩ => ⟨S14336x16, .bf16⟩
  | .hbm, ⟨4, _⟩ => ⟨S16x4096, .bf16⟩
  | .hbm, ⟨5, _⟩ => ⟨S4096, .f32⟩
  | .hbm, ⟨6, _⟩ => ⟨S7168x4096, .i32⟩
  | .hbm, ⟨7, _⟩ => ⟨S112x64x4096, .bf16⟩
  | .hbm, ⟨8, _⟩ => ⟨S7168x4096, .bf16⟩
  | .hbm, ⟨9, _⟩ => ⟨S_, .i32⟩
  | .hbm, ⟨10, _⟩ => ⟨S7168x4096, .i32⟩
  | .hbm, ⟨11, _⟩ => ⟨S7168x4096, .i32⟩
  | .hbm, ⟨12, _⟩ => ⟨S7168x16, .bf16⟩
  | .hbm, ⟨13, _⟩ => ⟨S_, .i32⟩
  | .hbm, ⟨14, _⟩ => ⟨S7168x4096, .i32⟩
  | .hbm, ⟨15, _⟩ => ⟨S7168x4096, .i1⟩
  | .hbm, ⟨16, _⟩ => ⟨S_, .i32⟩
  | .hbm, ⟨17, _⟩ => ⟨S7168x4096, .i32⟩
  | .hbm, ⟨18, _⟩ => ⟨S7168x4096, .i32⟩
  | .hbm, ⟨19, _⟩ => ⟨S7168x4096, .i32⟩
  | .hbm, ⟨20, _⟩ => ⟨S7168x4096, .bf16⟩
  | .hbm, ⟨21, _⟩ => ⟨S7168x4096, .bf16⟩
  | .hbm, ⟨22, _⟩ => ⟨S7168x4096, .f32⟩
  | .hbm, ⟨23, _⟩ => ⟨S7168x4096, .f32⟩
  | .hbm, ⟨24, _⟩ => ⟨S_, .f32⟩
  | .hbm, ⟨25, _⟩ => ⟨S7168x4096, .f32⟩
  | .hbm, ⟨26, _⟩ => ⟨S7168x4096, .f32⟩
  | .hbm, ⟨27, _⟩ => ⟨S7168x4096, .f32⟩
  | .hbm, ⟨28, _⟩ => ⟨S_, .i32⟩
  | .hbm, ⟨29, _⟩ => ⟨S7168x4096, .i32⟩
  | .hbm, ⟨30, _⟩ => ⟨S7168x4096, .i32⟩
  | .hbm, ⟨31, _⟩ => ⟨S_, .i32⟩
  | .hbm, ⟨32, _⟩ => ⟨S7168x4096, .i32⟩
  | .hbm, ⟨33, _⟩ => ⟨S7168x4096, .i32⟩
  | .hbm, ⟨34, _⟩ => ⟨S7168x16, .bf16⟩
  | .hbm, ⟨35, _⟩ => ⟨S_, .i32⟩
  | .hbm, ⟨36, _⟩ => ⟨S7168x4096, .i32⟩
  | .hbm, ⟨37, _⟩ => ⟨S7168x4096, .i1⟩
  | .hbm, ⟨38, _⟩ => ⟨S_, .i32⟩
  | .hbm, ⟨39, _⟩ => ⟨S7168x4096, .i32⟩
  | .hbm, ⟨40, _⟩ => ⟨S7168x4096, .i32⟩
  | .hbm, ⟨41, _⟩ => ⟨S7168x4096, .i32⟩
  | .hbm, ⟨42, _⟩ => ⟨S7168x4096, .bf16⟩
  | .hbm, ⟨43, _⟩ => ⟨S7168x4096, .bf16⟩
  | .hbm, ⟨44, _⟩ => ⟨S7168x4096, .f32⟩
  | .hbm, ⟨45, _⟩ => ⟨S7168x4096, .f32⟩
  | .hbm, ⟨46, _⟩ => ⟨S_, .f32⟩
  | .hbm, ⟨47, _⟩ => ⟨S7168x4096, .f32⟩
  | .hbm, ⟨48, _⟩ => ⟨S7168x4096, .f32⟩
  | .hbm, ⟨49, _⟩ => ⟨S7168x4096, .f32⟩
  | .hbm, ⟨50, _⟩ => ⟨S7168x4096, .f32⟩
  | .hbm, ⟨51, _⟩ => ⟨S_, .f32⟩
  | .hbm, ⟨52, _⟩ => ⟨S4096, .f32⟩
  | .hbm, ⟨53, _⟩ => ⟨S7168x4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096, .f32⟩
  | .hbm, ⟨58, _⟩ => ⟨S4x384x7168, .bf16⟩
  | .hbm, ⟨59, _⟩ => ⟨S7168x4096, .bf16⟩
  | .hbm, ⟨60, _⟩ => ⟨S4x384x4096, .f32⟩
  | .hbm, ⟨61, _⟩ => ⟨S4x384x7168, .bf16⟩
  | .hbm, ⟨62, _⟩ => ⟨S7168x4096, .bf16⟩
  | .hbm, ⟨63, _⟩ => ⟨S4x384x4096, .f32⟩
  | .hbm, ⟨64, _⟩ => ⟨S4x384x4096, .f32⟩
  | .hbm, ⟨65, _⟩ => ⟨S4096, .f32⟩
  | .hbm, ⟨66, _⟩ => ⟨S1x1x4096, .f32⟩
  | .hbm, ⟨67, _⟩ => ⟨S4x384x4096, .f32⟩
  | .hbm, ⟨68, _⟩ => ⟨S4x384x4096, .f32⟩
  | .hbm, ⟨69, _⟩ => ⟨S4x384x4096, .bf16⟩
  | .hbm, ⟨70, _⟩ => ⟨S1536x4096, .bf16⟩
  | .hbm, ⟨71, _⟩ => ⟨S1x4096, .f32⟩
  | _, _ => ⟨S4x384x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Proof.Nibble.lean ====
/-
  THE PACKED CODES. A byte holds two signed 4-bit codes, the low nibble first. The kernel takes nibble `p` by shifting
  the byte left by `28 - 4 p` and back right arithmetically by 28 in 32 bits; the reference masks four bits and subtracts
  16 from those that are at least 8. Both give the same number, for each of the 256 bytes.
-/
module

public import Idealize.ShloMosaic.Lib.Pointwise
public import Idealize.ShloMosaic.Lib.Pipeline.ValueKit

@[expose] public section

set_option maxRecDepth 16384

noncomputable section

namespace Cert.Dora

open Idealize.ShloMosaic

/-- Nibble `p` (0 low, 1 high) of the byte `b` as a signed number: shifted to the top of a 32-bit word and back. -/
def nibble (b : BitVec 8) (p : ℕ) : EReal :=
  FloatOps.sitofp (F := Ideal) FTy.bf16 (BitVec.setWidth 4
    (IntOp.shrsi ArithUnit.vector
      (IntOp.shli ArithUnit.vector (BitVec.setWidth 32 b) (IntOp.subi (28#32) (IntOp.muli (4#32) (BitVec.ofNat 32 p))))
      28#32))

/-- The factor 2 of the low-rank term. -/
def two : EReal := Ideal.ofBits FTy.f32 1073741824#32

/-- The reference's signed reading of a word's low four bits. -/
def signed4 (w : BitVec 32) : EReal :=
  FloatOps.sitofp (F := Ideal) FTy.bf16
    (Scalar.select (IntOp.cmpi CmpIPredicate.sge (IntOp.andi w 15#32) 8#32) (IntOp.subi (IntOp.andi w 15#32) 16#32)
      (IntOp.andi w 15#32))

/-- The low nibble, read either way. -/
theorem nibble_low (b : BitVec 8) : signed4 (BitVec.setWidth 32 b) = nibble b 0 := by
  unfold signed4 nibble
  refine congrArg (fun n : ℤ => ((n : ℝ) : EReal)) ?_
  revert b
  decide +kernel

/-- The high nibble, read either way. -/
theorem nibble_high (b : BitVec 8) :
    signed4 (IntOp.shrsi ArithUnit.host (BitVec.setWidth 32 b) 4#32) = nibble b 1 := by
  unfold signed4 nibble
  refine congrArg (fun n : ℤ => ((n : ℝ) : EReal)) ?_
  revert b
  decide +kernel

end Cert.Dora
-- ==== Proof.Block.lean ====
/-
  WHAT ONE GRID POINT COMPUTES. At a grid point the body decodes a 1024 x 1024 block of weights, group by group (8 groups
  of 128 rows). `blockWeight` is one entry of that block; the lemmas say what the stored values are at an index, over
  the point's input blocks as variables.
-/
module

public import proofs.«01_k».proof.Proof.Gen.KernelIdeal.Skeleton
public import proofs.«01_k».proof.Proof.Nibble
public import Idealize.ShloMosaic.Lib.Pointwise
public import Idealize.ShloMosaic.Lib.Pipeline.ValueKit

@[expose] public section

set_option maxRecDepth 16384

noncomputable section

namespace Cert.KernelIdeal.Value

open Idealize.ShloMosaic Cert.KernelIdeal Cert.KernelIdeal.Gen Cert.Dora

/-! ## The eight groups run the same arithmetic

The printed program splits each group's arithmetic differently, but every group's decoded rows are `k0_pay7` of the
group's own codes, scales and rows of `a`. -/

section Groups

variable (c : Vec Ideal S64x1024 .i8) (s : Vec Ideal S1x1024 .bf16) (a : Vec Ideal S128x16 .bf16) (b : Vec Ideal S16x1024 .bf16)

theorem group1 : k0_pay10 (F := Ideal) c s a b = k0_pay7 c s a b := rfl
theorem group2 : k0_pay14 (F := Ideal) (k0_pay13 (F := Ideal) c) (iota .tc S64x2x1024 32 [1] iota_S64x2x1024_d1_w32) s a b
    = k0_pay7 c s a b := rfl
theorem group3 : k0_pay19 (F := Ideal) (k0_pay17 (F := Ideal) c) k0_pay18 s a b = k0_pay7 c s a b := rfl
theorem group4 : k0_pay23 (F := Ideal) (k0_pay22 (F := Ideal) c s) a b = k0_pay7 c s a b := rfl
theorem group5 : k0_pay28 (F := Ideal) (k0_pay26 (F := Ideal) a b) (k0_pay27 c s) = k0_pay7 c s a b := rfl
theorem group6 : k0_pay30 (F := Ideal) c s a b = k0_pay7 c s a b := rfl
theorem group7 : k0_pay33 (F := Ideal) c s a b = k0_pay7 c s a b := rfl

/-- One decoded entry of a group: the nibble times its scale plus twice the low-rank product. -/
theorem group_at (r : Fin 128) (q : Fin 1024) : k0_pay7 (F := Ideal) c s a b (ix2 r q)
    = nibble (c (ix2 ⟨r / 2, by omega⟩ q)) (r % 2) * s (ix2 0 q) + two * ∑ l : Fin 16, a (ix2 r l) * b (ix2 l q) := by
  pointwise [k0_pay7, nibble, two]

/-- A group's sums of squares: sublane `s` takes the rows `8 i + s` of the group's 128 rows `g`. -/
def groupSq (g : FVec Ideal S128x1024 .f32) (s : Fin 8) (q : Fin 1024) : EReal :=
  ∑ i : Fin 16, g (ix2 ⟨i * 8 + s, by omega⟩ q) * g (ix2 ⟨i * 8 + s, by omega⟩ q)

end Groups

/-! ## The block of weights -/

/-- Entry `(r, q)` of the 1024 x 1024 block of weights, from the point's blocks of packed codes, scales, `a` and `b`. -/
def blockWeight (C : Vec Ideal S512x1024 .i8) (S : Vec Ideal S8x1024 .bf16) (A : Vec Ideal S1024x16 .bf16)
    (B : Vec Ideal S16x1024 .bf16) (r q : Fin 1024) : EReal :=
  nibble (C (ix2 ⟨r / 2, by omega⟩ q)) (r % 2) * S (ix2 ⟨r / 128, by omega⟩ q) + two * ∑ l : Fin 16, A (ix2 r l) * B (ix2 l q)

/-- A group's decoded entry is the block's: the group's local row `x 0` is the block's row `r`, its codes, scale and
    row of `a` are the block's there. -/
theorem group_eq (C : Vec Ideal S512x1024 .i8) (S : Vec Ideal S8x1024 .bf16) (A : Vec Ideal S1024x16 .bf16)
    (B : Vec Ideal S16x1024 .bf16) (c : Vec Ideal S64x1024 .i8) (s : Vec Ideal S1x1024 .bf16) (a : Vec Ideal S128x16 .bf16)
    (i : Fin 128) (r q : Fin 1024) (hr : (i : ℕ) % 2 = r % 2)
    (hc : c (ix2 ⟨i / 2, by omega⟩ q) = C (ix2 ⟨r / 2, by omega⟩ q)) (hs : s (ix2 0 q) = S (ix2 ⟨r / 128, by omega⟩ q))
    (ha : ∀ l : Fin 16, a (ix2 i l) = A (ix2 r l)) :
    k0_pay7 (F := Ideal) c s a B (ix2 i q) = blockWeight C S A B r q := by
  rw [group_at, blockWeight, hr, hc, hs]
  simp only [ha]

/-- The same with the group's inputs loaded from the blocks at the group's offsets: 64 rows of codes from `co`, row `so` of
    the scales, 128 rows of `a` from `ao`. -/
theorem group_loaded (C : Vec Ideal S512x1024 .i8) (S : Vec Ideal S8x1024 .bf16) (A : Vec Ideal S1024x16 .bf16)
    (B : Vec Ideal S16x1024 .bf16) {co so ao : ℕ} (hc : ∀ d, ![co, 0] d + ![64, 1024] d ≤ S512x1024.size d)
    (hs : ∀ d, ![so, 0] d + ![1, 1024] d ≤ S8x1024.size d) (ha : ∀ d, ![ao, 0] d + ![128, 16] d ≤ S1024x16.size d)
    (i : Fin 128) (r q : Fin 1024) (hca : ao = 2 * co) (hsa : ao = 128 * so) (hr : (r : ℕ) = ao + i) :
    k0_pay7 (F := Ideal) (View.ld C (Rect.unit (s := S512x1024) ![co, 0] ![64, 1024] hc))
      (View.ld S (Rect.unit (s := S8x1024) ![so, 0] ![1, 1024] hs))
      (View.ld A (Rect.unit (s := S1024x16) ![ao, 0] ![128, 16] ha)) B (ix2 i q)
    = blockWeight C S A B r q := by
  refine group_eq C S A B _ _ _ i r q (by omega) ?_ ?_ fun l => ?_
  · refine View.ld_unit_apply_of _ _ _ _ _ _ fun d => ?_
    fin_cases d <;> simp <;> (try omega)
  · refine View.ld_unit_apply_of _ _ _ _ _ _ fun d => ?_
    fin_cases d <;> simp <;> (try omega)
  · refine View.ld_unit_apply_of _ _ _ _ _ _ fun d => ?_
    fin_cases d <;> simp <;> (try omega)

/-- What is stored of a group's decoded rows (a cast and a reshape to the same shape) is the rows themselves. -/
theorem stored_at (v : FVec Ideal S128x1024 .f32) (x : S128x1024.Idx) :
    shapeCast S128x1024 (truncf .bf16 v bitsLt_bf16_f32) shapeCasts_S128x1024_S128x1024 x = v (ix2 (x 0) (x 1)) := by
  pointwise

/-- A group's step of the running sums of squares. -/
theorem sq_at (ss : FVec Ideal S8x1024 .f32) (v : FVec Ideal S128x1024 .f32) (s : Fin 8) (q : Fin 1024) :
    addf ss (multiReduction .add [0] S8x1024 (shapeCast S16x8x1024 (mulf v v) shapeCasts_S128x1024_S16x8x1024) 0x00000000#32
      reduces_S16x8x1024_S8x1024 (.inl rfl) rfl) (ix2 s q) = ss (ix2 s q) + groupSq v s q := by
  pointwise [groupSq]

section Squares

variable (ss : FVec Ideal S8x1024 .f32) (c c' : Vec Ideal S64x1024 .i8) (s s' : Vec Ideal S1x1024 .bf16)
  (a a' : Vec Ideal S128x16 .bf16) (b b' : Vec Ideal S16x1024 .bf16) (l : Fin 8) (q : Fin 1024)

theorem sq0_at : k0_pay8 (F := Ideal) c s a b (ix2 l q) = groupSq (k0_pay7 c s a b) l q := by
  pointwise [k0_pay8, groupSq]
theorem sq1_at : k0_pay11 ss c s a b (ix2 l q) = ss (ix2 l q) + groupSq (k0_pay7 c s a b) l q := sq_at ss (k0_pay10 c s a b) l q
theorem sq2_at : k0_pay15 ss (k0_pay13 (F := Ideal) c) (iota .tc S64x2x1024 32 [1] iota_S64x2x1024_d1_w32) s a b (ix2 l q)
    = ss (ix2 l q) + groupSq (k0_pay7 c s a b) l q :=
  sq_at ss (k0_pay14 (k0_pay13 (F := Ideal) c) (iota .tc S64x2x1024 32 [1] iota_S64x2x1024_d1_w32) s a b) l q
theorem sq3_at : k0_pay20 ss (k0_pay17 (F := Ideal) c) k0_pay18 s a b (ix2 l q)
    = ss (ix2 l q) + groupSq (k0_pay7 c s a b) l q := sq_at ss (k0_pay19 (k0_pay17 (F := Ideal) c) k0_pay18 s a b) l q
theorem sq4_at : k0_pay24 ss (k0_pay22 c s) a b (ix2 l q) = ss (ix2 l q) + groupSq (k0_pay7 c s a b) l q :=
  sq_at ss (k0_pay23 (k0_pay22 c s) a b) l q
theorem sq56_at : k0_pay31 ss (k0_pay26 a b) (k0_pay27 c s) c' s' a' b' (ix2 l q)
    = ss (ix2 l q) + groupSq (k0_pay7 c s a b) l q + groupSq (k0_pay7 c' s' a' b') l q :=
  (sq_at _ (k0_pay30 c' s' a' b') l q).trans
    (congrArg (· + groupSq (k0_pay30 c' s' a' b') l q) (sq_at ss (k0_pay28 (k0_pay26 a b) (k0_pay27 c s)) l q))
theorem sq7_at : k0_pay34 ss c s a b (ix2 l q) = ss (ix2 l q) + groupSq (k0_pay7 c s a b) l q := sq_at ss (k0_pay33 c s a b) l q

/-- The point's sums of squares are added to what the sublane held. -/
theorem sq_add_at (old : Vec Ideal S8x1024 .f32) : k0_pay1 ss old (ix2 l q) = old (ix2 l q) + ss (ix2 l q) := by
  pointwise [k0_pay1]

end Squares

/-! ## The stored values at an index -/

/-- The accumulator's update. -/
theorem acc_at (acc : Vec Ideal S1536x1024 .f32) (x : Vec Ideal S1536x1024 .bf16) (v : Vec Ideal S1024x1024 .bf16)
    (r : Fin 1536) (q : Fin 1024) :
    k0_pay2 (F := Ideal) acc x v (ix2 r q) = acc (ix2 r q) + ∑ k : Fin 1024, x (ix2 r k) * v (ix2 k q) := by
  pointwise [k0_pay2]

/-- The norm row: the root of the eight sublanes' sum. -/
theorem norm_at (ss : Vec Ideal S8x1024 .f32) (q : Fin 1024) :
    k0_pay3 (F := Ideal) ss (ix2 0 q) = Ideal.sqrt (∑ s : Fin 8, ss (ix2 s q)) := by
  pointwise [k0_pay3]

/-- The output block: the accumulator times the magnitude over the norm. -/
theorem out_at (ss : Vec Ideal S8x1024 .f32) (acc : Vec Ideal S1536x1024 .f32) (mag : Vec Ideal S1x1024 .f32)
    (r : Fin 1536) (q : Fin 1024) :
    k0_pay4 (F := Ideal) ss acc mag (ix2 r q)
      = acc (ix2 r q) * Ideal.div (mag (ix2 0 q)) (Ideal.sqrt (∑ s : Fin 8, ss (ix2 s q))) := by
  pointwise [k0_pay4, k0_pay3]

end Cert.KernelIdeal.Value
-- ==== Proof.Point.lean ====
/-
  WHAT A GRID POINT LEAVES. Point `t` works on column block `t / 14` and on the `t % 14`-th of the 14 blocks of the
  contracted axis. Its accumulator and its sums of squares are what the point before left (zero at the first of the 14)
  plus the point's own terms; at the last of the 14 it writes the output block and the norm row from them.
-/
module

public import proofs.«01_k».proof.Proof.Gen.KernelIdeal.Value
public import proofs.«01_k».proof.Proof.Block
public import Idealize.ShloMosaic.Lib.Pipeline.ReadBack

@[expose] public section

set_option maxRecDepth 16384

noncomputable section

namespace Cert.KernelIdeal.Value

open Idealize.ShloMosaic Cert.KernelIdeal Cert.KernelIdeal.Gen Cert.Dora

variable (m : (ℓ : Loc nD τ sig) → Buf (Elt Ideal) ℓ)

/-- The block of weights at point `t`. -/
def weightAt (c : Dev nD) (t : Fin cfg0.N) (r q : Fin 1024) : EReal :=
  blockWeight (iblk m c 1 t) (iblk m c 2 t) (iblk m c 3 t) (iblk m c 4 t) r q

/-- What point `t` adds to the accumulator at row `r`, column `q`. -/
def accTerm (c : Dev nD) (t : Fin cfg0.N) (r : Fin 1536) (q : Fin 1024) : EReal :=
  ∑ k : Fin 1024, (show EReal from iblk m c 0 t (ix2 r k)) * weightAt m c t k q

/-- What point `t` adds to sublane `s` of the sums of squares: the squares of the rows `128 g + 8 i + s`. -/
def sqTerm (c : Dev nD) (t : Fin cfg0.N) (s : Fin 8) (q : Fin 1024) : EReal :=
  ∑ g : Fin 8, ∑ i : Fin 16, weightAt m c t ⟨g * 128 + i * 8 + s, by omega⟩ q * weightAt m c t ⟨g * 128 + i * 8 + s, by omega⟩ q

set_option maxHeartbeats 2000000 in
/-- The accumulator after point `t`: what the point before left (zero at the first of a run) plus the point's term. In each
    case of the body the block of weights is read back from its eight stored row tiles. -/
theorem acc_step (c : Dev nD) (t : Fin cfg0.N) (r : Fin 1536) (q : Fin 1024) :
    (outsAt0 m c t.val t.isLt).2.2.1 (ix2 r q)
      = (if t.val % 14 = 0 then (0 : EReal)
          else (outsAt0 m c (t.val - 1) (Nat.lt_of_le_of_lt (Nat.sub_le _ _) t.isLt)).2.2.1 (ix2 r q)) + accTerm m c t r q := by
  by_cases hz : t.val % 14 = 0
  on_goal 2 => by_cases hl : t.val % 14 = 13
  on_goal 1 =>
    rw [if_pos hz, outsAt0_A m c t hz (by omega)]; frame_out; rw [acc_at]
    refine Ideal.add_congr (by pointwise [k0_pay5]) (Finset.sum_congr rfl fun k _ => Ideal.mul_congr rfl ?_)
  on_goal 2 =>
    rw [if_neg hz, outsAt0_C m c t hz hl]; frame_out; rw [acc_at, read_unread_whole]
    refine Ideal.add_congr rfl (Finset.sum_congr rfl fun k _ => Ideal.mul_congr rfl ?_)
  on_goal 3 =>
    rw [if_neg hz, outsAt0_B m c t hz hl]; frame_out; rw [acc_at, read_unread_whole]
    refine Ideal.add_congr rfl (Finset.sum_congr rfl fun k _ => Ideal.mul_congr rfl ?_)
  all_goals
    rw [View.readCov_eq_canon']
    canon_tiles x h
    all_goals
      refine (stored_at _ x).trans ?_
      try simp only [group1, group2, group3, group4, group5, group6, group7]
      have hx : x 1 = q := Fin.ext (by simp at h1; omega)
      rw [hx]
      exact group_loaded _ _ _ _ _ _ _ (x 0) k q (by norm_num) (by norm_num) (by simp at h0; omega)

set_option maxHeartbeats 2000000 in
/-- The sums of squares after point `t`, sublane `s`. -/
theorem sq_step (c : Dev nD) (t : Fin cfg0.N) (s : Fin 8) (q : Fin 1024) :
    (outsAt0 m c t.val t.isLt).2.2.2 (ix2 s q)
      = (if t.val % 14 = 0 then (0 : EReal)
          else (outsAt0 m c (t.val - 1) (Nat.lt_of_le_of_lt (Nat.sub_le _ _) t.isLt)).2.2.2 (ix2 s q)) + sqTerm m c t s q := by
  by_cases hz : t.val % 14 = 0
  on_goal 2 => by_cases hl : t.val % 14 = 13
  on_goal 1 =>
    rw [if_pos hz, outsAt0_A m c t hz (by omega)]; frame_out; rw [sq_add_at]
    refine Ideal.add_congr (by pointwise [k0_pay6]) ?_
  on_goal 2 =>
    rw [if_neg hz, outsAt0_C m c t hz hl]; frame_out; rw [sq_add_at, read_unread_whole]
    refine Ideal.add_congr rfl ?_
  on_goal 3 =>
    rw [if_neg hz, outsAt0_B m c t hz hl]; frame_out; rw [sq_add_at, read_unread_whole]
    refine Ideal.add_congr rfl ?_
  all_goals
    rw [sq7_at, sq56_at, sq4_at, sq3_at, sq2_at, sq1_at, sq0_at, sqTerm, Fin.sum_univ_eight]
    simp only [groupSq]
    iterate 7 refine Ideal.add_congr ?_ ?_
    all_goals
      refine Finset.sum_congr rfl fun i _ => ?_
      exact Ideal.mul_congr
        (group_loaded _ _ _ _ _ _ _ _ _ q (by norm_num) (by norm_num) (by simp <;> omega))
        (group_loaded _ _ _ _ _ _ _ _ _ q (by norm_num) (by norm_num) (by simp <;> omega))

set_option maxHeartbeats 2000000 in
/-- At the last point of a run the norm row written is the root of the sums of squares the point leaves. -/
theorem norm_out (c : Dev nD) (t : Fin cfg0.N) (hl : t.val % 14 = 13) :
    (outsAt0 m c t.val t.isLt).2.1 = k0_pay3 (F := Ideal) (outsAt0 m c t.val t.isLt).2.2.2 := by
  rw [outsAt0_C m c t (by omega) hl]; frame_out

set_option maxHeartbeats 2000000 in
/-- At the last point of a run the block written is the accumulator the point leaves, times the magnitude over the norm. -/
theorem block_out (c : Dev nD) (t : Fin cfg0.N) (hl : t.val % 14 = 13) :
    (outsAt0 m c t.val t.isLt).1
      = k0_pay4 (F := Ideal) (outsAt0 m c t.val t.isLt).2.2.2 (outsAt0 m c t.val t.isLt).2.2.1 (iblk m c 5 t) := by
  rw [outsAt0_C m c t (by omega) hl]; frame_out

end Cert.KernelIdeal.Value
-- ==== Proof.Spec.lean ====
/-
  THE FUNCTION BOTH PROGRAMS COMPUTE, over the arguments: packed codes `C`, scales `S`, low-rank factors `A` and `B`,
  activations `X` and magnitudes `G`. Row `K` of the 14336 x 4096 weight matrix is nibble `K % 2` of packed row `K / 2`
  times the scale of group `K / 128`, plus twice the low-rank product. The norm is each column's root of the sum of squares;
  the output is the product of the activations and the weights times the magnitude over the norm.
-/
module

public import proofs.«01_k».proof.Proof.Nibble

@[expose] public section

set_option maxRecDepth 16384

noncomputable section

namespace Cert.Dora

open Idealize.ShloMosaic

section

variable (X : FVec Ideal ⟨3, ![4, 384, 14336]⟩ .bf16) (C : IVec ⟨2, ![7168, 4096]⟩ 8) (S : FVec Ideal ⟨2, ![112, 4096]⟩ .bf16)
  (A : FVec Ideal ⟨2, ![14336, 16]⟩ .bf16) (B : FVec Ideal ⟨2, ![16, 4096]⟩ .bf16) (G : FVec Ideal ⟨1, ![4096]⟩ .f32)

/-- The weight in row `K`, column `n`. -/
def weight (K : Fin 14336) (n : Fin 4096) : EReal :=
  nibble (C (ix2 ⟨K / 2, by omega⟩ n)) (K % 2) * S (ix2 ⟨K / 128, by omega⟩ n) + two * ∑ l : Fin 16, A (ix2 K l) * B (ix2 l n)

/-- The norm of column `n`. -/
def colNorm (n : Fin 4096) : EReal :=
  Ideal.sqrt (∑ K : Fin 14336, weight C S A B K n * weight C S A B K n)

/-- The output in row `r` (the 4 x 384 rows flattened), column `n`. -/
def out (r : Fin 1536) (n : Fin 4096) : EReal :=
  (∑ K : Fin 14336, X (ix3 ⟨r / 384, by omega⟩ ⟨r % 384, by omega⟩ K) * weight C S A B K n)
    * Ideal.div (G (ix1 n)) (colNorm C S A B n)

end

/-- A sum over the 14336 rows is the sum over the even rows plus the sum over the odd rows. -/
theorem sum_even_odd (f : Fin 14336 → EReal) :
    ∑ K, f K = ∑ i : Fin 7168, f ⟨2 * i, by omega⟩ + ∑ i : Fin 7168, f ⟨1 + 2 * i, by omega⟩ := by
  rw [Fin.sum_univ_tiles 7168 2 rfl f, ← Finset.sum_add_distrib]
  refine Finset.sum_congr rfl fun i _ => ?_
  rw [Fin.sum_univ_two]
  refine congrArg₂ (· + ·) (congrArg f (Fin.ext ?_)) (congrArg f (Fin.ext ?_)) <;> simp <;> omega

/-- A sum over the 14336 rows, tile by tile: 14 tiles of 1024 rows. -/
theorem sum_tiles (f : Fin 14336 → EReal) :
    ∑ K, f K = ∑ k : Fin 14, ∑ r : Fin 1024, f ⟨1024 * k + r, by omega⟩ := by
  rw [Fin.sum_univ_tiles 14 1024 rfl f]
  refine Finset.sum_congr rfl fun k _ => Finset.sum_congr rfl fun r _ => congrArg f (Fin.ext ?_)
  simp <;> omega

/-- A tile's 1024 rows, sublane by sublane: sublane `s` holds the rows `128 g + 8 i + s`. -/
theorem sum_sublanes (f : Fin 1024 → EReal) :
    ∑ s : Fin 8, ∑ g : Fin 8, ∑ i : Fin 16, f ⟨g * 128 + i * 8 + s, by omega⟩ = ∑ r, f r := by
  rw [Fin.sum_univ_tiles 8 128 rfl f, Finset.sum_comm]
  refine Finset.sum_congr rfl fun g _ => ?_
  rw [Fin.sum_univ_tiles 16 8 rfl (fun t : Fin 128 => f ⟨(g : ℕ) * 128 + t, by omega⟩), Finset.sum_comm]
  refine Finset.sum_congr rfl fun i _ => Finset.sum_congr rfl fun s _ => congrArg f (Fin.ext ?_)
  simp <;> omega

end Cert.Dora
-- ==== Proof.Arrays.lean ====
/-
  WHAT THE RESULT ARRAYS HOLD after the run: the output and the norms of `Spec`, over the argument arrays.
-/
module

public import proofs.«01_k».proof.Proof.Point
public import proofs.«01_k».proof.Proof.Spec
public import Idealize.ShloMosaic.Lib.Claim

@[expose] public section

set_option maxRecDepth 16384

noncomputable section

namespace Cert.KernelIdeal.Value

open Idealize.ShloMosaic Cert.KernelIdeal Cert.KernelIdeal.Gen Cert.Dora

variable (m : (ℓ : Loc nD τ sig) → Buf (Elt Ideal) ℓ) (c : Dev nD)

/-- The block each window is on at point `t`. -/
theorem idx : ∀ t : Fin cfg0.N, win0_0.index t = ![0, t.val % 14] ∧ win0_1.index t = ![t.val % 14, t.val / 14]
    ∧ win0_2.index t = ![t.val % 14, t.val / 14] ∧ win0_3.index t = ![t.val % 14, 0] ∧ win0_4.index t = ![0, t.val / 14]
    ∧ win0_5.index t = ![0, t.val / 14] ∧ win0_6.index t = ![0, t.val / 14] ∧ win0_7.index t = ![0, t.val / 14] :=
  (by decide +kernel : ∀ t : Fin grid0.N, _)

/-- There are four column blocks. -/
theorem col_lt (t : Fin cfg0.N) : t.val / 14 < 4 := by
  have := lt_of_lt_of_eq t.isLt N_0
  omega

/-- The arguments, at their shapes. -/
abbrev argX : FVec Ideal S4x384x14336 .bf16 := m ((c.tc : Thread nD τ).loc main_arg0)
abbrev argC : IVec S7168x4096 8 := m ((c.tc : Thread nD τ).loc main_arg1)
abbrev argS : FVec Ideal S112x4096 .bf16 := m ((c.tc : Thread nD τ).loc main_arg2)
abbrev argA : FVec Ideal S14336x16 .bf16 := m ((c.tc : Thread nD τ).loc main_arg3)
abbrev argB : FVec Ideal S16x4096 .bf16 := m ((c.tc : Thread nD τ).loc main_arg4)
abbrev argG : FVec Ideal S4096 .f32 := m ((c.tc : Thread nD τ).loc main_arg5)

/-- The block of weights at point `t` is the weight matrix's, at the point's rows and columns. -/
theorem weightAt_eq (t : Fin cfg0.N) (r q : Fin 1024) :
    weightAt m c t r q = weight (argC m c) (argS m c) (argA m c) (argB m c) ⟨1024 * (t.val % 14) + r, by omega⟩
      ⟨1024 * (t.val / 14) + q, by have := col_lt t; omega⟩ := by
  have := col_lt t
  have hp : (1024 * (t.val % 14) + r : ℕ) % 2 = r % 2 := by omega
  rw [weightAt, blockWeight, weight]
  simp only [hp]
  blk_point [iblk, V, idx t]

/-- The block of activations at point `t`. -/
theorem x_eq (t : Fin cfg0.N) (r : Fin 1536) (k : Fin 1024) :
    (show EReal from iblk m c 0 t (ix2 r k)) = argX m c (ix3 ⟨r / 384, by omega⟩ ⟨r % 384, by omega⟩ ⟨1024 * (t.val % 14) + k, by omega⟩) := by
  blk_simp [iblk, idx t]
  entry_read
  pointwise
  blk_ext [idx t]

/-- The magnitudes of point `t`'s columns. -/
theorem mag_eq (t : Fin cfg0.N) (q : Fin 1024) :
    (show EReal from iblk m c 5 t (ix2 0 q)) = argG m c (ix1 ⟨1024 * (t.val / 14) + q, by have := col_lt t; omega⟩) := by
  blk_simp [iblk, idx t]
  entry_read
  pointwise
  blk_ext [idx t]

/-- The point that writes back, by its run's `k`-th point: it is on block `k` of the contracted axis and on the run's columns. -/
theorem run_point (t : Fin cfg0.N) (k : Fin 14) : (14 * (t.val / 14) + k.val) % 14 = k ∧ (14 * (t.val / 14) + k.val) / 14 = t.val / 14 := by
  omega

/-- The accumulator where the block is written back: the product of the activations and the weights. -/
theorem acc_final (t : Fin cfg0.N) (hl : t.val % 14 = 13) (r : Fin 1536) (q : Fin 1024) :
    (outsAt0 m c t.val t.isLt).2.2.1 (ix2 r q) = ∑ K : Fin 14336, argX m c (ix3 ⟨r / 384, by omega⟩ ⟨r % 384, by omega⟩ K)
      * weight (argC m c) (argS m c) (argA m c) (argB m c) K ⟨1024 * (t.val / 14) + q, by have := col_lt t; omega⟩ := by
  refine (Pipeline.eq_sum_fin_of_reset_step_of_flush (M := EReal) (fun n h => (outsAt0 m c n h).2.2.1 (ix2 r q)) 14 0
    (fun t => accTerm m c t r q) (fun t h => by rw [acc_step, if_pos h]) (fun t h => by rw [acc_step, if_neg h]) t hl).trans ?_
  rw [zero_add, sum_tiles]
  refine Finset.sum_congr rfl fun k _ => Finset.sum_congr rfl fun i _ => ?_
  rw [x_eq, weightAt_eq]
  simp only [run_point t k]

/-- The sums of squares where the norm row is written back, over the eight sublanes: the sum of the squared weights. -/
theorem sq_final (t : Fin cfg0.N) (hl : t.val % 14 = 13) (q : Fin 1024) :
    ∑ s : Fin 8, (show EReal from (outsAt0 m c t.val t.isLt).2.2.2 (ix2 s q)) = ∑ K : Fin 14336,
      weight (argC m c) (argS m c) (argA m c) (argB m c) K ⟨1024 * (t.val / 14) + q, by have := col_lt t; omega⟩
      * weight (argC m c) (argS m c) (argA m c) (argB m c) K ⟨1024 * (t.val / 14) + q, by have := col_lt t; omega⟩ := by
  have run (s : Fin 8) := Pipeline.eq_sum_fin_of_reset_step_of_flush (M := EReal) (fun n h => (outsAt0 m c n h).2.2.2 (ix2 s q)) 14 0
    (fun t => sqTerm m c t s q) (fun t h => by rw [sq_step, if_pos h]) (fun t h => by rw [sq_step, if_neg h]) t hl
  refine (Finset.sum_congr rfl fun s _ => (run s).trans (zero_add _)).trans ?_
  rw [Finset.sum_comm, sum_tiles]
  refine Finset.sum_congr rfl fun k _ => ?_
  refine (sum_sublanes (fun i => weightAt m c _ i q * weightAt m c _ i q)).trans (Finset.sum_congr rfl fun i _ => ?_)
  rw [weightAt_eq]
  simp only [run_point t k]

/-- The norm row a run writes back. -/
theorem norm_row (t : Fin cfg0.N) (hl : t.val % 14 = 13) (q : Fin 1024) :
    (show FVec Ideal S1x1024 .f32 from (outsAt0 m c t.val t.isLt).2.1) (ix2 0 q)
      = colNorm (argC m c) (argS m c) (argA m c) (argB m c) ⟨1024 * (t.val / 14) + q, by have := col_lt t; omega⟩ := by
  rw [norm_out m c t hl]
  exact (norm_at _ q).trans (congrArg Ideal.sqrt (sq_final m c t hl q))

/-- The output block a run writes back. -/
theorem out_block (t : Fin cfg0.N) (hl : t.val % 14 = 13) (r : Fin 1536) (q : Fin 1024) :
    (show FVec Ideal S1536x1024 .bf16 from (outsAt0 m c t.val t.isLt).1) (ix2 r q)
      = out (argX m c) (argC m c) (argS m c) (argA m c) (argB m c) (argG m c) r
        ⟨1024 * (t.val / 14) + q, by have := col_lt t; omega⟩ := by
  rw [block_out m c t hl]
  exact (out_at _ _ _ r q).trans (congrArg₂ (· * ·) (acc_final m c t hl r q)
    (congrArg₂ Ideal.div (mag_eq m c t q) (congrArg Ideal.sqrt (sq_final m c t hl q))))

/-- The norms after the run. -/
theorem norm_array : (dats m 0 c).arrAt 7 cfg0.N
    = fun i => colNorm (argC m c) (argS m c) (argA m c) (argB m c) ⟨i 1, (i 1).isLt⟩ := by
  refine (dats m 0 c).arrAt_eq_of_covers 7 _ (by decide +kernel) fun t hf y => ?_
  rw [after0_7]
  blk_simp [idx t]
  have hy : y = ix2 (0 : Fin 1) (⟨y 1, (y 1).isLt⟩ : Fin 1024) :=
    (eq_ix2 y).trans (congrArg (fun a => ix2 a _) (Subsingleton.elim (α := Fin 1) _ _))
  refine (congrArg _ hy).trans ((norm_row m c t ((flush0_7 t).mp hf) ⟨y 1, (y 1).isLt⟩).trans (congrArg _ (Fin.ext ?_)))
  simp [mul_comm]

/-- The output after the run. -/
theorem out_array : (dats m 0 c).arrAt 6 cfg0.N
    = fun i => out (argX m c) (argC m c) (argS m c) (argA m c) (argB m c) (argG m c) ⟨i 0, (i 0).isLt⟩ ⟨i 1, (i 1).isLt⟩ := by
  refine (dats m 0 c).arrAt_eq_of_covers 6 _ (by decide +kernel) fun t hf y => ?_
  rw [after0_6]
  blk_simp [idx t]
  have hy : y = ix2 (⟨y 0, (y 0).isLt⟩ : Fin 1536) (⟨y 1, (y 1).isLt⟩ : Fin 1024) := eq_ix2 y
  refine (congrArg _ hy).trans ((out_block m c t ((flush0_6 t).mp hf) ⟨y 0, (y 0).isLt⟩ ⟨y 1, (y 1).isLt⟩).trans
    (congrArg₂ _ (Fin.ext ?_) (Fin.ext ?_))) <;> simp [mul_comm]

end Cert.KernelIdeal.Value
-- ==== Proof.Reference.lean ====
/-
  WHAT THE REFERENCE COMPUTES: the output and the norms of `Spec`. It keeps the even rows (the low nibbles) and the odd rows
  (the high nibbles) apart and adds the two halves of each sum.
-/
module

public import proofs.«01_k».proof.Proof.Gen.ReferenceIdeal.Run
public import proofs.«01_k».proof.Proof.Spec
public import Idealize.ShloMosaic.Lib.Pointwise
public import Idealize.ShloMosaic.Lib.Pipeline.ValueKit

@[expose] public section

set_option maxRecDepth 16384

noncomputable section

namespace Cert.ReferenceIdeal.Value

open Idealize.ShloMosaic Cert.ReferenceIdeal Cert.ReferenceIdeal.Gen Cert.Dora

variable (m : (ℓ : Loc nD τ sig) → Buf (Elt Ideal) ℓ) (c : Dev nD)

/-- The arguments, at their shapes. -/
abbrev argX : FVec Ideal S4x384x14336 .bf16 := m ((c.tc : Thread nD τ).loc main_arg0)
abbrev argC : IVec S7168x4096 8 := m ((c.tc : Thread nD τ).loc main_arg1)
abbrev argS : FVec Ideal S112x4096 .bf16 := m ((c.tc : Thread nD τ).loc main_arg2)
abbrev argA : FVec Ideal S14336x16 .bf16 := m ((c.tc : Thread nD τ).loc main_arg3)
abbrev argB : FVec Ideal S16x4096 .bf16 := m ((c.tc : Thread nD τ).loc main_arg4)
abbrev argG : FVec Ideal S4096 .f32 := m ((c.tc : Thread nD τ).loc main_arg5)

section

variable (C : IVec S7168x4096 8) (S : FVec Ideal S112x4096 .bf16) (A : FVec Ideal S14336x16 .bf16) (B : FVec Ideal S16x4096 .bf16)

/-- A weight in an even row: the low nibble. -/
theorem weight_even (x : Fin 7168) (q : Fin 4096) :
    weight C S A B ⟨2 * x, by omega⟩ q = signed4 (BitVec.setWidth 32 (C (ix2 x q))) * S (ix2 ⟨x / 64, by omega⟩ q)
      + two * ∑ l : Fin 16, A (ix2 ⟨2 * x, by omega⟩ l) * B (ix2 l q) := by
  have h2 : 2 * (x : ℕ) / 2 = x := by omega
  have hm : 2 * (x : ℕ) % 2 = 0 := by omega
  have hg : 2 * (x : ℕ) / 128 = x / 64 := by omega
  simp only [weight, nibble_low, h2, hm, hg]

/-- A weight in an odd row: the high nibble. -/
theorem weight_odd (x : Fin 7168) (q : Fin 4096) :
    weight C S A B ⟨1 + 2 * x, by omega⟩ q
      = signed4 (IntOp.shrsi ArithUnit.host (BitVec.setWidth 32 (C (ix2 x q))) 4#32) * S (ix2 ⟨x / 64, by omega⟩ q)
      + two * ∑ l : Fin 16, A (ix2 ⟨1 + 2 * x, by omega⟩ l) * B (ix2 l q) := by
  have h2 : (1 + 2 * (x : ℕ)) / 2 = x := by omega
  have hm : (1 + 2 * (x : ℕ)) % 2 = 1 := by omega
  have hg : (1 + 2 * (x : ℕ)) / 128 = x / 64 := by omega
  simp only [weight, nibble_high, h2, hm, hg]

end

/-- The norms the reference returns. -/
theorem norm_at (q : Fin 4096) : (show FVec Ideal S1x4096 .f32 from res_main_v54 m c) (ix2 0 q)
    = colNorm (argC m c) (argS m c) (argA m c) (argB m c) q := by
  rw [colNorm, sum_even_odd]
  simp only [weight_even, weight_odd]
  pointwise [res_main_v54]
  rfl

/-- The output the reference returns. -/
theorem out_at (r : Fin 1536) (q : Fin 4096) : (show FVec Ideal S1536x4096 .bf16 from res_main_v53 m c) (ix2 r q)
    = out (argX m c) (argC m c) (argS m c) (argA m c) (argB m c) (argG m c) r q := by
  rw [out, colNorm, sum_even_odd, sum_even_odd]
  simp only [weight_even, weight_odd]
  pointwise [res_main_v53]
  rfl

/-- The array of norms the reference returns. -/
theorem norm_array : res_main_v54 m c
    = fun i => colNorm (argC m c) (argS m c) (argA m c) (argB m c) ⟨i 1, (i 1).isLt⟩ :=
  funext fun i => by
    have hi : i = ix2 (0 : Fin 1) (⟨i 1, (i 1).isLt⟩ : Fin 4096) :=
      (eq_ix2 i).trans (congrArg (fun a => ix2 a _) (Subsingleton.elim (α := Fin 1) _ _))
    exact (congrArg _ hi).trans (norm_at m c ⟨i 1, (i 1).isLt⟩)

/-- The output array the reference returns. -/
theorem out_array : res_main_v53 m c
    = fun i => out (argX m c) (argC m c) (argS m c) (argA m c) (argB m c) (argG m c) ⟨i 0, (i 0).isLt⟩ ⟨i 1, (i 1).isLt⟩ :=
  funext fun i => (congrArg _ (eq_ix2 (n0 := 1536) (n1 := 4096) i)).trans (out_at m c ⟨i 0, (i 0).isLt⟩ ⟨i 1, (i 1).isLt⟩)

end Cert.ReferenceIdeal.Value
-- ==== Proof.lean ====
/-
  THE CERTIFICATE: the kernel and its idealization run and leave their arguments and their counters alone; so does the
  reference; and the idealized kernel and the reference return the same two arrays, the output and the column norms of
  `Proof/Spec.lean`. `Proof/Arrays.lean` says it of the kernel, `Proof/Reference.lean` of the reference.
-/
module

public import proofs.«01_k».proof.Proof.Arrays
public import proofs.«01_k».proof.Proof.Reference
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference runs and leaves its arguments unchanged; it has no counters. -/
theorem reference_frame : Cert.quiescent_ReferenceIdeal (hReferenceIdeal := Cert.ReferenceIdeal.Gen.facts) := fun m g _ =>
  θ_run_mono (Cert.ReferenceIdeal.Value.run m g) fun _ h => ⟨fun c => (h c).2.2, sem_eq_zero_of_no_sems (by decide) _⟩

/-- The idealized kernel and the reference return the same output and the same norms. -/
theorem equal : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Value.G6 m c, fun c => Cert.KernelIdeal.Value.G7 m c, Cert.KernelIdeal.Value.run m g,
    θ_run_mono (Cert.ReferenceIdeal.Value.run m' g') fun _ h c => ⟨(h c).1.trans ?_, (h c).2.1.trans ?_, (h c).2.2⟩⟩
  · obtain ⟨h0, h1, h2, h3, h4, h5⟩ := hagree c
    show _ = Cert.KernelIdeal.Value.G6 m c
    rw [← Cert.KernelIdeal.Value.final6 m c, Cert.KernelIdeal.Value.out_array m c, Cert.ReferenceIdeal.Value.out_array m' c]
    dsimp only [Cert.ReferenceIdeal.Value.argX, Cert.ReferenceIdeal.Value.argC, Cert.ReferenceIdeal.Value.argS,
      Cert.ReferenceIdeal.Value.argA, Cert.ReferenceIdeal.Value.argB, Cert.ReferenceIdeal.Value.argG]
    rw [h0, h1, h2, h3, h4, h5]
    rfl
  · obtain ⟨_, h1, h2, h3, h4, _⟩ := hagree c
    show _ = Cert.KernelIdeal.Value.G7 m c
    rw [← Cert.KernelIdeal.Value.final7 m c, Cert.KernelIdeal.Value.norm_array m c, Cert.ReferenceIdeal.Value.norm_array m' c]
    dsimp only [Cert.ReferenceIdeal.Value.argC, Cert.ReferenceIdeal.Value.argS, Cert.ReferenceIdeal.Value.argA,
      Cert.ReferenceIdeal.Value.argB]
    rw [h1, h2, h3, h4]
    rfl

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, equal⟩

end Cert.Proof

end
